-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128x1024 : Shape := ⟨3, ![256, 128, 1024]⟩
abbrev S1024x4096 : Shape := ⟨2, ![1024, 4096]⟩
abbrev S4096 : Shape := ⟨1, ![4096]⟩
abbrev S1x4096 : Shape := ⟨2, ![1, 4096]⟩
abbrev S8x128x1024 : Shape := ⟨3, ![8, 128, 1024]⟩
abbrev S128x1024 : Shape := ⟨2, ![128, 1024]⟩
abbrev S1024x1024 : Shape := ⟨2, ![1024, 1024]⟩
abbrev S128x4096 : Shape := ⟨2, ![128, 4096]⟩
abbrev S128x3072 : Shape := ⟨2, ![128, 3072]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x128x1024, .f32⟩
  | .hbm, ⟨1, _⟩ => ⟨S1024x4096, .f32⟩
  | .hbm, ⟨2, _⟩ => ⟨S1024x4096, .f32⟩
  | .hbm, ⟨3, _⟩ => ⟨S4096, .f32⟩
  | .hbm, ⟨4, _⟩ => ⟨S256x128x1024, .bf16⟩
  | .hbm, ⟨5, _⟩ => ⟨S1024x4096, .bf16⟩
  | .hbm, ⟨6, _⟩ => ⟨S1024x4096, .bf16⟩
  | .hbm, ⟨7, _⟩ => ⟨S1x4096, .f32⟩
  | .hbm, ⟨8, _⟩ => ⟨S256x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1x4096, .f32⟩
  | .local _ .vmem, ⟨5, _⟩ => ⟨S8x128x1024, .f32⟩
  | .local _ .vmem, ⟨6, _⟩ => ⟨S8x128x1024, .f32⟩
  | .local _ .vmem, ⟨7, _⟩ => ⟨S128x1024, .f32⟩
  | .local _ .vmem, ⟨8, _⟩ => ⟨S128x1024, .f32⟩
  | _, _ => ⟨S256x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x128x1024 : Shape := ⟨3, ![256, 128, 1024]⟩
abbrev S1024x4096 : Shape := ⟨2, ![1024, 4096]⟩
abbrev S4096 : Shape := ⟨1, ![4096]⟩
abbrev S256x128x4096 : Shape := ⟨3, ![256, 128, 4096]⟩
abbrev S1x1x4096 : Shape := ⟨3, ![1, 1, 4096]⟩
abbrev S_ : Shape := ⟨0, ![]⟩
abbrev S128x1024 : Shape := ⟨2, ![128, 1024]⟩
abbrev S1x128x4096 : Shape := ⟨3, ![1, 128, 4096]⟩
abbrev S128x4096 : Shape := ⟨2, ![128, 4096]⟩
abbrev S128x3072 : Shape := ⟨2, ![128, 3072]⟩
abbrev S1x128x1024 : Shape := ⟨3, ![1, 128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S256x128x1024, .f32⟩
  | .hbm, ⟨1, _⟩ => ⟨S1024x4096, .f32⟩
  | .hbm, ⟨2, _⟩ => ⟨S1024x4096, .f32⟩
  | .hbm, ⟨3, _⟩ => ⟨S4096, .f32⟩
  | .hbm, ⟨4, _⟩ => ⟨S256x128x4096, .f32⟩
  | .hbm, ⟨5, _⟩ => ⟨S1x1x4096, .f32⟩
  | .hbm, ⟨6, _⟩ => ⟨S256x128x4096, .f32⟩
  | .hbm, ⟨7, _⟩ => ⟨S256x128x4096, .f32⟩
  | .hbm, ⟨8, _⟩ => ⟨S_, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S_, .f32⟩
  | .hbm, ⟨13, _⟩ => ⟨S256x128x1024, .f32⟩
  | .hbm, ⟨14, _⟩ => ⟨S_, .i32⟩
  | .hbm, ⟨15, _⟩ => ⟨S256x128x4096, .f32⟩
  | .hbm, ⟨16, _⟩ => ⟨S1024x4096, .f32⟩
  | .hbm, ⟨17, _⟩ => ⟨S_, .i32⟩
  | .hbm, ⟨18, _⟩ => ⟨S128x1024, .f32⟩
  | .hbm, ⟨19, _⟩ => ⟨S128x1024, .f32⟩
  | .hbm, ⟨20, _⟩ => ⟨S256x128x1024, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x128x4096, .f32⟩
  | .hbm, ⟨26, _⟩ => ⟨S128x4096, .f32⟩
  | .hbm, ⟨27, _⟩ => ⟨S128x4096, .f32⟩
  | .hbm, ⟨28, _⟩ => ⟨S128x4096, .f32⟩
  | .hbm, ⟨29, _⟩ => ⟨S128x3072, .f32⟩
  | .hbm, ⟨30, _⟩ => ⟨S128x3072, .f32⟩
  | .hbm, ⟨31, _⟩ => ⟨S128x3072, .f32⟩
  | .hbm, ⟨32, _⟩ => ⟨S_, .f32⟩
  | .hbm, ⟨33, _⟩ => ⟨S128x3072, .f32⟩
  | .hbm, ⟨34, _⟩ => ⟨S128x3072, .f32⟩
  | .hbm, ⟨35, _⟩ => ⟨S_, .f32⟩
  | .hbm, ⟨36, _⟩ => ⟨S128x3072, .f32⟩
  | .hbm, ⟨37, _⟩ => ⟨S128x3072, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S1x128x1024, .f32⟩
  | .hbm, ⟨49, _⟩ => ⟨S_, .i32⟩
  | .hbm, ⟨50, _⟩ => ⟨S_, .i32⟩
  | .hbm, ⟨51, _⟩ => ⟨S256x128x1024, .f32⟩
  | .hbm, ⟨52, _⟩ => ⟨S_, .i32⟩
  | .hbm, ⟨53, _⟩ => ⟨S_, .i32⟩
  | _, _ => ⟨S256x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_c : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_while0c_c_7 : Ref sig .tc := ⟨.hbm, 21, rfl⟩
abbrev main_while0c_v8 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v8 : Ref sig .tc := ⟨.hbm, 26, rfl⟩
abbrev main_while0b_v9 : Ref sig .tc := ⟨.hbm, 27, rfl⟩
abbrev main_while0b_v10 : Ref sig .tc := ⟨.hbm, 28, rfl⟩
abbrev main_while0b_v11 : Ref sig .tc := ⟨.hbm, 29, rfl⟩
abbrev main_while0b_v12 : Ref sig .tc := ⟨.hbm, 30, rfl⟩
abbrev main_while0b_v13 : Ref sig .tc := ⟨.hbm, 31, rfl⟩
abbrev main_while0b_cst_7 : Ref sig .tc := ⟨.hbm, 32, rfl⟩
abbrev main_while0b_v14 : Ref sig .tc := ⟨.hbm, 33, rfl⟩
abbrev main_while0b_v15 : Ref sig .tc := ⟨.hbm, 34, rfl⟩
abbrev main_while0b_cst_8 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_call1_v0 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_v28 : Ref sig .tc := ⟨.hbm, 51, rfl⟩
abbrev main_while0b_c_9 : Ref sig .tc := ⟨.hbm, 52, rfl⟩
abbrev main_while0b_v29 : Ref sig .tc := ⟨.hbm, 53, rfl⟩

abbrev nD : Nat := 1
abbrev τ : Topo := Topo.v7x

variable {F : FTy → Type} [FloatOps F]

abbrev main_while0_count : Scf.Loop 32 := ⟨0#32, 256#32, 1#32⟩
-- ==== Proof.RefRun.lean ====
/-
  The reference's run read as a sequence of states: the buffers its loop carries, taken together, go from one trip to the next
  by one step, so what the run leaves is the sequence's last state.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state the loop's buffers hold. -/
def stateOf (V : Valuation τ sig (Elt F)) : State F where
  main_v7_3 := V (Proc.devRef .tc main_v7_3)
  main_v7_4 := V (Proc.devRef .tc main_v7_4)
  main_v7_5 := V (Proc.devRef .tc main_v7_5)
  main_v7_0 := V (Proc.devRef .tc main_v7_0)
  main_v7_1 := V (Proc.devRef .tc main_v7_1)

/-- The result in the state is the result's buffer. -/
theorem stateOf_out (V : Valuation τ sig (Elt F)) : (stateOf V).main_v7_5 = V (Proc.devRef .tc main_v7_5) := rfl

section Trip

variable (V : Valuation τ sig (Elt F)) (j : ℕ)
variable (hn : V (Proc.devRef .tc main_v7_2) = constantI S_ 32 (BitVec.ofNat 32 j))

include hn in
/-- A trip's pre-activations. -/
theorem pre_eq : res_main_while0b_v10 V = Step.b5 j (stateOf V) := by
  unfold res_main_while0b_v10
  rw [hn]
  rfl

include hn in
/-- A trip's cell state. -/
theorem cell_eq : res_main_while0b_v25 V = Step.b22 j (stateOf V) := by
  unfold res_main_while0b_v25 res_main_while0b_v17
  rw [pre_eq V j hn]
  rfl

include hn in
/-- A trip's hidden state. -/
theorem hidden_eq : res_main_while0b_v27 V = Step.b24 j (stateOf V) := by
  unfold res_main_while0b_v27 res_main_while0b_v17
  rw [cell_eq V j hn, pre_eq V j hn]
  rfl

include hn in
/-- A trip's result. -/
theorem out_eq : step_main_v7_5 V = Step.b28 j (stateOf V) := by
  unfold step_main_v7_5
  rw [hidden_eq V j hn, hn]
  rfl

include hn in
/-- A trip takes the state its buffers hold to the next. -/
theorem stateOf_step : stateOf (STEP V) = step j (stateOf V) := by
  unfold stateOf step
  rw [STEP_main_v7_0, STEP_main_v7_1, STEP_main_v7_3, STEP_main_v7_4, STEP_main_v7_5, out_eq V j hn]
  unfold step_main_v7_3 step_main_v7_4
  rw [hidden_eq V j hn, cell_eq V j hn]
  rfl

include hn in
/-- A trip adds one to the trip counter. -/
theorem count_step : STEP V (Proc.devRef .tc main_v7_2) = constantI S_ 32 (BitVec.ofNat 32 (j + 1)) := by
  rw [STEP_main_v7_2]
  unfold step_main_v7_2
  rw [hn]
  exact funext fun _ => (BitVec.ofNat_add j 1).symm

end Trip

variable (m : (ℓ : Loc nD τ sig) → Buf (Elt F) ℓ) (c : Dev nD)

/-- The state of the arguments a memory holds. -/
abbrev start : State F :=
  init (m ((c.tc : Thread nD τ).loc main_arg2)) (m ((c.tc : Thread nD τ).loc main_arg0)) (m ((c.tc : Thread nD τ).loc main_arg1))
    (m ((c.tc : Thread nD τ).loc main_arg3))

set_option maxRecDepth 65536 in
/-- The loop begins at trip zero. -/
theorem count_start : entryContents preI m c (Proc.devRef .tc main_v7_2) = constantI S_ 32 (BitVec.ofNat 32 0) :=
  ctr_entry m c

set_option maxRecDepth 65536 in
/-- The loop begins with the state of the arguments. -/
theorem stateOf_start : stateOf (entryContents preI m c) = start m c := by
  refine (State.mk.injEq ..).mpr ⟨?_, ?_, ?_, ?_, ?_⟩ <;> (simp only [entryContents, afterL_cons, afterL_nil]; after_reads_simp) <;> rfl

/-- After `k` trips the counter is `k` and the buffers hold the sequence's state `k`. -/
theorem stateOf_iter (it : ℕ → State F) (h0 : it 0 = start m c) (hs : ∀ n, it (n + 1) = step n (it n)) (k : ℕ) :
    (STEP^[k] (entryContents preI m c)) (Proc.devRef .tc main_v7_2) = constantI S_ 32 (BitVec.ofNat 32 k)
      ∧ stateOf (STEP^[k] (entryContents preI m c)) = it k := by
  induction k with
  | zero => exact ⟨count_start m c, (stateOf_start m c).trans h0.symm⟩
  | succ k ih =>
    rw [Function.iterate_succ_apply']
    exact ⟨count_step _ k ih.1, (stateOf_step _ k ih.1).trans (by rw [ih.2, hs])⟩

/-- What the run's loop leaves in the result is the sequence's last state's. -/
theorem result_iter (it : ℕ → State F) (h0 : it 0 = start m c) (hs : ∀ n, it (n + 1) = step n (it n)) :
    (STEP^[256] (entryContents preI m c)) (Proc.devRef .tc main_v7_5) = (it 256).main_v7_5 := by
  rw [← (stateOf_iter m c it h0 hs 256).2]
  exact (stateOf_out _).symm

end Cert.Proof.RefRun

end
-- ==== Proof.Cell.lean ====
/-
  One step of the LSTM cell in the kernel's own operations, the eight steps of a grid point as one recursion, and each
  stretch of the kernel's body as a cell of that recursion.
-/
module

public import proofs.«01_k».proof.Proof.Gen.KernelIdeal.Skeleton
public import Idealize.ShloMosaic.Lib.ValueIdxCore
public import Idealize.ShloMosaic.Lib.Pipeline.Value

@[expose] public section

noncomputable section

namespace Cert.Proof.Cell

open Idealize.ShloMosaic Cert.KernelIdeal Cert.KernelIdeal.Gen

variable {F : FTy → Type} [FloatOps F]

/-- The pre-activations of a step: the input's part plus the hidden state times the recurrent weights. -/
def zg (xk : FVec F S128x4096 .f32) (h : FVec F S128x1024 .f32) (u : Vec F S1024x4096 .bf16) : FVec F S128x4096 .f32 :=
  addf xk (matmul dot_S128x1024_S1024x4096_S128x4096_1_0_0_1_n_n none (truncf .bf16 h bitsLt_bf16_f32)
    (shapeCast S1024x4096 u shapeCasts_S1024x4096_S1024x4096) (constant S128x4096 .f32 0x00000000#32))

/-- The kernel's one half. -/
abbrev half : F .f32 := Scalar.ofBits .f32 0x3F000000#32

/-- The pre-activations of the three gates. -/
def pre (g : FVec F S128x4096 .f32) : FVec F S128x3072 .f32 :=
  extractStridedSlice S128x3072 ![0, 0] g slices_S128x4096_o0_0_S128x3072

/-- The hyperbolic tangent of half the gates' pre-activations. -/
def th (g : FVec F S128x4096 .f32) : FVec F S128x3072 .f32 := tanh (mulf (pre g) (broadcast S128x3072 half))

/-- The three gates, as the kernel computes them. -/
def gate (g : FVec F S128x4096 .f32) : FVec F S128x3072 .f32 :=
  addf (mulf (broadcast S128x3072 half) (th g)) (broadcast S128x3072 half)

/-- The candidate for the cell state. -/
def cand (g : FVec F S128x4096 .f32) : FVec F S128x1024 .f32 :=
  tanh (extractStridedSlice S128x1024 ![0, 3072] g slices_S128x4096_o0_3072_S128x1024)

/-- The input gate. -/
def ig (g : FVec F S128x4096 .f32) : FVec F S128x1024 .f32 :=
  extractStridedSlice S128x1024 ![0, 0] (gate g) slices_S128x3072_o0_0_S128x1024

/-- The forget gate. -/
def fg (g : FVec F S128x4096 .f32) : FVec F S128x1024 .f32 :=
  extractStridedSlice S128x1024 ![0, 1024] (gate g) slices_S128x3072_o0_1024_S128x1024

/-- The output gate. -/
def og (g : FVec F S128x4096 .f32) : FVec F S128x1024 .f32 :=
  extractStridedSlice S128x1024 ![0, 2048] (gate g) slices_S128x3072_o0_2048_S128x1024

/-- The cell state after the step. -/
def cellC (g : FVec F S128x4096 .f32) (c : FVec F S128x1024 .f32) : FVec F S128x1024 .f32 :=
  addf (mulf (fg g) c) (mulf (ig g) (cand g))

/-- The hidden state after the step. -/
def cellH (g : FVec F S128x4096 .f32) (c : FVec F S128x1024 .f32) : FVec F S128x1024 .f32 :=
  mulf (og g) (tanh (cellC g c))

/-- The 128 rows of the projected inputs from row `o` on. -/
def slab (o : ℕ) (v : FVec F S1024x4096 .f32) : FVec F S128x4096 .f32 :=
  fun j => v (ValueIdx.ix2 (⟨(o + (j 0).val) % 1024, Nat.mod_lt _ (by decide)⟩ : Fin 1024) (j 1 : Fin 4096))

/-- The hidden and the cell state after `k` steps of a grid point, from its projected inputs, the recurrent weights
    and the state it begins with. -/
def steps (v : FVec F S1024x4096 .f32) (u : Vec F S1024x4096 .bf16) (h c : FVec F S128x1024 .f32) :
    ℕ → FVec F S128x1024 .f32 × FVec F S128x1024 .f32
  | 0 => (h, c)
  | k + 1 => (cellH (zg (slab (128 * k) v) (steps v u h c k).1 u) (steps v u h c k).2,
      cellC (zg (slab (128 * k) v) (steps v u h c k).1 u) (steps v u h c k).2)

/-- A slice of 128 whole rows is the slab at its offset. -/
theorem slice_eq_slab (o : ℕ) (v : FVec F S1024x4096 .f32) (hs : S1024x4096.Slices ![o, 0] S128x4096) :
    extractStridedSlice S128x4096 ![o, 0] v hs = slab o v := by
  funext j
  unfold extractStridedSlice slab
  refine congrArg v (funext fun a => Fin.ext ?_)
  have h0 : o + 128 ≤ 1024 := hs.2 0
  have hj : (j 0).val < 128 := (j 0).isLt
  match a with
  | ⟨0, _⟩ =>
    show o + (j 0).val = (o + (j 0).val) % 1024
    rw [Nat.mod_eq_of_lt (by omega)]
  | ⟨1, _⟩ => show 0 + (j 1).val = (j 1).val; omega

/-! ## The stretches of the body, each a cell of the recursion -/

section Pay

variable (v14 : FVec F S1024x4096 .f32) (u u' : Vec F S1024x4096 .bf16)
variable (h c t : FVec F S128x1024 .f32) (g x : FVec F S128x4096 .f32)
variable (xb : Vec F S8x128x1024 .bf16) (w : Vec F S1024x4096 .bf16) (b : Vec F S1x4096 .f32)

/-- The first step's output gate. -/
theorem pay12_eq : k0_pay12 h xb w b u = og (zg (slab 0 (k0_pay9 xb w b)) h u) := by
  rw [← slice_eq_slab 0 _ slices_S1024x4096_o0_0_S128x4096]; rfl
/-- The first step's cell state. -/
theorem pay13_eq : k0_pay13 h c xb w b u = cellC (zg (slab 0 (k0_pay9 xb w b)) h u) c := by
  rw [← slice_eq_slab 0 _ slices_S1024x4096_o0_0_S128x4096]; rfl
/-- The hyperbolic tangent of the first step's cell state. -/
theorem pay14_eq : k0_pay14 h c xb w b u = tanh (cellC (zg (slab 0 (k0_pay9 xb w b)) h u) c) := by
  rw [← slice_eq_slab 0 _ slices_S1024x4096_o0_0_S128x4096]; rfl
/-- The first step's hidden state, as the row stored. -/
theorem pay16_eq : k0_pay16 (og g) (tanh (cellC g c)) = shapeCast S1x128x1024 (cellH g c) shapeCasts_S128x1024_S1x128x1024 := rfl
/-- The second step's cell state. -/
theorem pay19_eq : k0_pay19 v14 (og g) t (tanh (cellC g c)) u = cellC (zg (slab 128 v14) (cellH g c) u) t := by
  rw [← slice_eq_slab 128 _ slices_S1024x4096_o128_0_S128x4096]; rfl
/-- The second step's hidden state, as the row stored. -/
theorem pay21_eq : k0_pay21 v14 (og g) t (tanh (cellC g c)) u
    = shapeCast S1x128x1024 (cellH (zg (slab 128 v14) (cellH g c) u) t) shapeCasts_S128x1024_S1x128x1024 := by
  rw [← slice_eq_slab 128 _ slices_S1024x4096_o128_0_S128x4096]; rfl
/-- The third step's pre-activations. -/
theorem pay22_eq : k0_pay22 v14 (og g) t (tanh (cellC g c)) u u'
    = zg (slab 256 v14) (cellH (zg (slab 128 v14) (cellH g c) u) t) u' := by
  rw [← slice_eq_slab 128 _ slices_S1024x4096_o128_0_S128x4096, ← slice_eq_slab 256 _ slices_S1024x4096_o256_0_S128x4096]; rfl
/-- The hyperbolic tangents in the third step's gates. -/
theorem pay23_eq : k0_pay23 v14 (og g) t (tanh (cellC g c)) u u'
    = th (zg (slab 256 v14) (cellH (zg (slab 128 v14) (cellH g c) u) t) u') := by
  rw [← slice_eq_slab 128 _ slices_S1024x4096_o128_0_S128x4096, ← slice_eq_slab 256 _ slices_S1024x4096_o256_0_S128x4096]; rfl
/-- The third step's hidden state, as the row stored. -/
theorem pay27_eq : k0_pay27 c g (th g) half = shapeCast S1x128x1024 (cellH g c) shapeCasts_S128x1024_S1x128x1024 := rfl
/-- The fourth step's cell state. -/
theorem pay30_eq : k0_pay30 v14 c g (th g) half u = cellC (zg (slab 384 v14) (cellH g c) u) (cellC g c) := by
  rw [← slice_eq_slab 384 _ slices_S1024x4096_o384_0_S128x4096]; rfl
/-- The fourth step's hidden state. -/
theorem pay31_eq : k0_pay31 v14 c g (th g) half u = cellH (zg (slab 384 v14) (cellH g c) u) (cellC g c) := by
  rw [← slice_eq_slab 384 _ slices_S1024x4096_o384_0_S128x4096]; rfl
/-- The fourth step's hidden state, as the row stored. -/
theorem pay32_eq : k0_pay32 v14 c g (th g) half u
    = shapeCast S1x128x1024 (cellH (zg (slab 384 v14) (cellH g c) u) (cellC g c)) shapeCasts_S128x1024_S1x128x1024 := by
  rw [← slice_eq_slab 384 _ slices_S1024x4096_o384_0_S128x4096]; rfl
/-- The fifth step's projected inputs. -/
theorem pay33_eq : k0_pay33 v14 = slab 512 v14 := slice_eq_slab 512 _ slices_S1024x4096_o512_0_S128x4096
/-- The fifth step's cell state. -/
theorem pay36_eq : k0_pay36 c h x u = cellC (zg x h u) c := rfl
/-- The fifth step's hidden state, as the row stored. -/
theorem pay38_eq : k0_pay38 c h x u = shapeCast S1x128x1024 (cellH (zg x h u) c) shapeCasts_S128x1024_S1x128x1024 := rfl
/-- The sixth step's gates. -/
theorem pay40_eq : k0_pay40 v14 c h x u u' = gate (zg (slab 640 v14) (cellH (zg x h u) c) u') := by
  rw [← slice_eq_slab 640 _ slices_S1024x4096_o640_0_S128x4096]; rfl
/-- The sixth step's candidate. -/
theorem pay41_eq : k0_pay41 v14 c h x u u' = cand (zg (slab 640 v14) (cellH (zg x h u) c) u') := by
  rw [← slice_eq_slab 640 _ slices_S1024x4096_o640_0_S128x4096]; rfl
/-- The sixth step's input gate. -/
theorem pay42_eq : k0_pay42 v14 c h x u u' = ig (zg (slab 640 v14) (cellH (zg x h u) c) u') := by
  rw [← slice_eq_slab 640 _ slices_S1024x4096_o640_0_S128x4096]; rfl
/-- The sixth step's forget gate. -/
theorem pay43_eq : k0_pay43 v14 c h x u u' = fg (zg (slab 640 v14) (cellH (zg x h u) c) u') := by
  rw [← slice_eq_slab 640 _ slices_S1024x4096_o640_0_S128x4096]; rfl
/-- The sixth step's hidden state, as the row stored. -/
theorem pay46_eq : k0_pay46 c (gate g) (cand g) (ig g) (fg g)
    = shapeCast S1x128x1024 (cellH g c) shapeCasts_S128x1024_S1x128x1024 := rfl
/-- The seventh step's cell state. -/
theorem pay49_eq : k0_pay49 v14 c (gate g) (cand g) (ig g) (fg g) u
    = cellC (zg (slab 768 v14) (cellH g c) u) (cellC g c) := by
  rw [← slice_eq_slab 768 _ slices_S1024x4096_o768_0_S128x4096]; rfl
/-- The seventh step's hidden state, as the row stored. -/
theorem pay51_eq : k0_pay51 v14 c (gate g) (cand g) (ig g) (fg g) u
    = shapeCast S1x128x1024 (cellH (zg (slab 768 v14) (cellH g c) u) (cellC g c)) shapeCasts_S128x1024_S1x128x1024 := by
  rw [← slice_eq_slab 768 _ slices_S1024x4096_o768_0_S128x4096]; rfl
/-- The eighth step's pre-activations. -/
theorem pay52_eq : k0_pay52 v14 c (gate g) (cand g) (ig g) (fg g) u u'
    = zg (slab 896 v14) (cellH (zg (slab 768 v14) (cellH g c) u) (cellC g c)) u' := by
  rw [← slice_eq_slab 768 _ slices_S1024x4096_o768_0_S128x4096, ← slice_eq_slab 896 _ slices_S1024x4096_o896_0_S128x4096]; rfl
/-- The pre-activations of the eighth step's gates. -/
theorem pay53_eq : k0_pay53 v14 c (gate g) (cand g) (ig g) (fg g) u u'
    = pre (zg (slab 896 v14) (cellH (zg (slab 768 v14) (cellH g c) u) (cellC g c)) u') := by
  rw [← slice_eq_slab 768 _ slices_S1024x4096_o768_0_S128x4096, ← slice_eq_slab 896 _ slices_S1024x4096_o896_0_S128x4096]; rfl
/-- The eighth step's hidden state, as the row stored. -/
theorem pay4_eq : k0_pay4 c g (pre g) = shapeCast S1x128x1024 (cellH g c) shapeCasts_S128x1024_S1x128x1024 := rfl
/-- The eighth step's cell state, as kept for the next grid point. -/
theorem pay5_eq : k0_pay5 c g (pre g) = cellC g c := by
  show shapeCast S128x1024 (cellC g c) _ = _
  rw [shapeCast_self]
/-- The eighth step's hidden state, as kept for the next grid point. -/
theorem pay6_eq : k0_pay6 c g (pre g) = cellH g c := by
  show shapeCast S128x1024 (cellH g c) _ = _
  rw [shapeCast_self]
/-- The sixth step's cell state. -/
theorem pay44_eq : k0_pay44 c (cand g) (ig g) (fg g) = cellC g c := rfl

end Pay

end Cert.Proof.Cell

end
-- ==== Proof.Block.lean ====
/-
  What one grid point leaves: the rows of the output block are the hidden states after each of its eight steps, and the
  two scratch buffers the state after the last. One statement for the first grid point, which begins from zeros, and one
  for every other, which begins from what the point before left.
-/
module

public import proofs.«01_k».proof.Proof.Cell
public import proofs.«01_k».proof.Proof.Gen.KernelIdeal.Value
public import Idealize.ShloMosaic.Lib.Tactic

@[expose] public section

noncomputable section

namespace Cert.Proof.Block

open Idealize.ShloMosaic Idealize.ShloMosaic.TcCoe Idealize.SL.Sem Cert.KernelIdeal Cert.KernelIdeal.Gen Cert.Proof.Cell
open Idealize.ShloMosaic.ValueIdx (ix2)

variable {F : FTy → Type} [FloatOps F]

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The block whose row `k` is the `k`-th of a sequence of hidden states. -/
def stack (f : ℕ → FVec F S128x1024 .f32) : Vec F S8x128x1024 .f32 :=
  fun i => f (i 0).val (ix2 (i 1 : Fin 128) (i 2 : Fin 1024))

/-- What a store of one row writes is that row of the stacked block. -/
theorem row_eq (f : ℕ → FVec F S128x1024 .f32) (k : ℕ) (inb : ∀ a, ![k, 0, 0] a + S1x128x1024.size a ≤ S8x128x1024.size a)
    (x : (Rect.unit (s := S8x128x1024) ![k, 0, 0] S1x128x1024.size inb).shape.Idx) :
    shapeCast S1x128x1024 (f k) shapeCasts_S128x1024_S1x128x1024 x
      = stack f ((Rect.unit (s := S8x128x1024) ![k, 0, 0] S1x128x1024.size inb).emb x) := by
  have hx : (x 0).val < 1 := (x 0).isLt
  refine (shapeCast_addUnit_apply ![128, 1024] (f k) shapeCasts_S128x1024_S1x128x1024 x).trans ?_
  have e0 : (((Rect.unit (s := S8x128x1024) ![k, 0, 0] S1x128x1024.size inb).emb x 0 : Fin 8) : ℕ) = k := by
    show k + 1 * (x 0).val = k; omega
  unfold stack
  rw [e0]
  refine congrArg (f k) (Shape.idx_ext₂ ?_ ?_)
  · show (x 1).val = 0 + 1 * (x 1).val; omega
  · show (x 2).val = 0 + 1 * (x 2).val; omega

/-- Pieces that are each a row of a stacked block, and that together cover the block, leave the stacked block. -/
theorem canon_rows (f : ℕ → FVec F S128x1024 .f32) (L : List (View.Piece (Elt F) S8x128x1024 .f32))
    (hL : ∀ p ∈ L, ∃ (k : ℕ) (inb : ∀ a, ![k, 0, 0] a + S1x128x1024.size a ≤ S8x128x1024.size a),
      p = ⟨Rect.unit (s := S8x128x1024) ![k, 0, 0] S1x128x1024.size inb,
        shapeCast S1x128x1024 (f k) shapeCasts_S128x1024_S1x128x1024⟩)
    (hc : ∀ y, ∃ p ∈ L, y ∈ p.1.set) : View.canon L = stack f :=
  funext fun y => View.canon_apply_of_pieces (stack f) L (fun p hp x => by
    obtain ⟨k, inb, rfl⟩ := hL p hp
    exact row_eq f k inb x) y (hc y)

/-- What a grid point leaves in the output's block and the two scratch buffers, from its projected inputs, the recurrent
    weights and the state it begins with. -/
def left (v : FVec F S1024x4096 .f32) (u : Vec F S1024x4096 .bf16) (h c : Vec F S128x1024 .f32) :
    Vec F S8x128x1024 .f32 × Vec F S128x1024 .f32 × Vec F S128x1024 .f32 :=
  (stack fun k => (steps v u h c (k + 1)).1, (steps v u h c 8).1, (steps v u h c 8).2)

section

variable (c : Dev nD) (i : grid0.Coords) (a1 : Memref sig .tc .vmem S8x128x1024 .bf16) (h1 : a1.IsWhole)
variable (a2 : Memref sig .tc .vmem S1024x4096 .bf16) (h2 : a2.IsWhole) (a3 : Memref sig .tc .vmem S1024x4096 .bf16) (h3 : a3.IsWhole)
variable (a4 : Memref sig .tc .vmem S1x4096 .f32) (h4 : a4.IsWhole) (a5 : Memref sig .tc .vmem S8x128x1024 .f32) (h5 : a5.IsWhole)
variable (a6 : Memref sig .tc .vmem S128x1024 .f32) (h6 : a6.IsWhole) (a7 : Memref sig .tc .vmem S128x1024 .f32) (h7 : a7.IsWhole)
variable (x : Vec F S8x128x1024 .bf16) (w u : Vec F S1024x4096 .bf16) (b : Vec F S1x4096 .f32) (h k : Vec F S128x1024 .f32)

/-- A grid point after the first leaves its eight steps from the state it is handed. -/
theorem left_B (hc : ¬cond0_0 i) :
    (out0_B_4 c i a1 h1 a2 h2 a3 h3 a4 h4 a5 h5 a6 h6 a7 h7 hc x w u b h k,
      sout0_B_0 c i a1 h1 a2 h2 a3 h3 a4 h4 a5 h5 a6 h6 a7 h7 hc x w u b h k,
      sout0_B_1 c i a1 h1 a2 h2 a3 h3 a4 h4 a5 h5 a6 h6 a7 h7 hc x w u b h k) = left (k0_pay9 x w b) u h k := by
  have hcov := cover0_B_4 c i a1 h1 a2 h2 a3 h3 a4 h4 a5 h5 a6 h6 a7 h7 hc x w u b h k
  unfold out0_B_4 sout0_B_0 sout0_B_1
  rw [View.read_writes_eq_canon _ _ _ hcov,
    View.read_writes_eq_canon _ _ _ (scover0_B_0 c i a1 h1 a2 h2 a3 h3 a4 h4 a5 h5 a6 h6 a7 h7 hc x w u b h k),
    View.read_writes_eq_canon _ _ _ (scover0_B_1 c i a1 h1 a2 h2 a3 h3 a4 h4 a5 h5 a6 h6 a7 h7 hc x w u b h k),
    canon_rows (fun n => (steps (k0_pay9 x w b) u h k (n + 1)).1) _ ?_ hcov]
  all_goals
    unfold kernelRun0_B
    dsimp only
    sl_unfold_words
    simp only [View.readAt_eq_ld, h1.read_unread, h2.read_unread, h3.read_unread, h4.read_unread, h6.read_unread,
      h7.read_unread, View.ld_unit_zero (S := S128x1024) hz2, View.ld_unit_zero (S := S1024x4096) hz2,
      View.ld_unit_zero (S := S1x4096) hz2, View.ld_unit_zero (S := S8x128x1024) hz3, pay12_eq, pay13_eq, pay14_eq, pay16_eq,
      pay19_eq, pay21_eq, pay22_eq, pay23_eq, pay27_eq, pay30_eq, pay31_eq, pay32_eq, pay33_eq, pay36_eq, pay38_eq, pay40_eq,
      pay41_eq, pay42_eq, pay43_eq, pay44_eq, pay46_eq, pay49_eq, pay51_eq, pay52_eq, pay53_eq, pay4_eq, pay5_eq, pay6_eq]
  · rw [View.canon_cons_unit_zero hz2, View.canon_cons_unit_zero hz2]; rfl
  · simp only [List.forall_mem_cons]
    exact ⟨⟨7, _, rfl⟩, ⟨6, _, rfl⟩, ⟨5, _, rfl⟩, ⟨4, _, rfl⟩, ⟨3, _, rfl⟩, ⟨2, _, rfl⟩, ⟨1, _, rfl⟩, ⟨0, _, rfl⟩,
      fun _ hp => absurd hp List.not_mem_nil⟩

/-- The first grid point leaves its eight steps from the zeros it stores. -/
theorem left_A (hc : cond0_0 i) :
    (out0_A_4 c i a1 h1 a2 h2 a3 h3 a4 h4 a5 h5 a6 h6 a7 h7 hc x w u b,
      sout0_A_0 c i a1 h1 a2 h2 a3 h3 a4 h4 a5 h5 a6 h6 a7 h7 hc x w u b,
      sout0_A_1 c i a1 h1 a2 h2 a3 h3 a4 h4 a5 h5 a6 h6 a7 h7 hc x w u b) = left (k0_pay9 x w b) u k0_pay7 k0_pay8 := by
  have hcov := cover0_A_4 c i a1 h1 a2 h2 a3 h3 a4 h4 a5 h5 a6 h6 a7 h7 hc x w u b
  unfold out0_A_4 sout0_A_0 sout0_A_1
  rw [View.read_writes_eq_canon _ _ _ hcov,
    View.read_writes_eq_canon _ _ _ (scover0_A_0 c i a1 h1 a2 h2 a3 h3 a4 h4 a5 h5 a6 h6 a7 h7 hc x w u b),
    View.read_writes_eq_canon _ _ _ (scover0_A_1 c i a1 h1 a2 h2 a3 h3 a4 h4 a5 h5 a6 h6 a7 h7 hc x w u b),
    canon_rows (fun n => (steps (k0_pay9 x w b) u k0_pay7 k0_pay8 (n + 1)).1) _ ?_ hcov]
  all_goals
    unfold kernelRun0_A
    dsimp only
    sl_unfold_words
    simp only [View.readAt_eq_ld, h1.read_unread, h2.read_unread, h3.read_unread, h4.read_unread,
      View.readCov_unit_zero (S := S128x1024) _ hz2, View.ld_unit_zero (S := S1024x4096) hz2,
      View.ld_unit_zero (S := S1x4096) hz2, View.ld_unit_zero (S := S8x128x1024) hz3, pay12_eq, pay13_eq, pay14_eq, pay16_eq,
      pay19_eq, pay21_eq, pay22_eq, pay23_eq, pay27_eq, pay30_eq, pay31_eq, pay32_eq, pay33_eq, pay36_eq, pay38_eq, pay40_eq,
      pay41_eq, pay42_eq, pay43_eq, pay44_eq, pay46_eq, pay49_eq, pay51_eq, pay52_eq, pay53_eq, pay4_eq, pay5_eq, pay6_eq]
  · rw [View.canon_cons_unit_zero hz2, View.canon_cons_unit_zero hz2]; rfl
  · simp only [List.forall_mem_cons]
    exact ⟨⟨7, _, rfl⟩, ⟨6, _, rfl⟩, ⟨5, _, rfl⟩, ⟨4, _, rfl⟩, ⟨3, _, rfl⟩, ⟨2, _, rfl⟩, ⟨1, _, rfl⟩, ⟨0, _, rfl⟩,
      fun _ hp => absurd hp List.not_mem_nil⟩

end

end Cert.Proof.Block

end
-- ==== Proof.Blocks.lean ====
/-
  What the kernel's input windows hold at a grid point over the extended reals: eight steps of the input, the two weights
  whole, and the bias as one row.
-/
module

public import proofs.«01_k».proof.Proof.Gen.KernelIdeal.Value
public import Idealize.ShloMosaic.PureOps.Ideal
public import Idealize.ShloMosaic.Lib.ValueIdxCore
public import Idealize.ShloMosaic.Lib.StableHlo.Run

@[expose] public section

noncomputable section

namespace Cert.Proof.Blocks

open Idealize.ShloMosaic Idealize.ShloMosaic.TcCoe Idealize.SL.Sem Cert.KernelIdeal Cert.KernelIdeal.Gen
open Idealize.ShloMosaic.ValueIdx (ix1 ix2 ix3)

variable (m : (ℓ : Loc nD τ sig) → Buf (Elt Ideal) ℓ) (c : Dev nD)

/-- The input as the kernel's region finds it is the argument: the conversion is the identity. -/
theorem V_x : (V m c main_v0 : FVec Ideal S256x128x1024 .bf16) = m ((c : Thread nD τ).loc main_arg0) := by
  unfold V
  after_results
  rfl

/-- The input weights as the region finds them are the argument. -/
theorem V_w : (V m c main_v1 : FVec Ideal S1024x4096 .bf16) = m ((c : Thread nD τ).loc main_arg1) := by
  unfold V
  after_results
  rfl

/-- The recurrent weights as the region finds them are the argument. -/
theorem V_u : (V m c main_v2 : FVec Ideal S1024x4096 .bf16) = m ((c : Thread nD τ).loc main_arg2) := by
  unfold V
  after_results
  rfl

/-- The bias as the region finds it is the argument, reshaped to one row. -/
theorem V_b : (V m c main_v3 : FVec Ideal S1x4096 .f32)
    = shapeCast S1x4096 (m ((c : Thread nD τ).loc main_arg3) : FVec Ideal S4096 .f32) shapeCasts_S4096_S1x4096 := by
  unfold V
  after_results
  rfl

/-- The input windows' index maps: the first moves one block a point, the others stay. -/
theorem idx_in : ∀ t : Fin cfg0.N, (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The input's block at point `t` holds steps `8t` to `8t + 7`. -/
theorem iblk_x (t : Fin cfg0.N) (k : Fin 8) (r : Fin 128) (i : Fin 1024) (hs : 8 * t.val + k.val < 256) :
    (iblk m c 0 t : Vec Ideal S8x128x1024 .bf16) (ix3 k r i)
      = (m ((c : Thread nD τ).loc main_arg0) : FVec Ideal S256x128x1024 .f32) (ix3 (⟨8 * t.val + k.val, hs⟩ : Fin 256) r i) := by
  obtain ⟨⟨h0, h1, h2⟩, -⟩ := idx_in t
  rw [← V_x m c]
  unfold iblk
  rw [View.read_apply]
  show V m c main_v0 _ = V m c main_v0 _
  congr 1
  funext a
  apply Fin.ext
  match a with
  | ⟨0, _⟩ => show win0_0.index t 0 * 8 + 1 * k.val = 8 * t.val + k.val; rw [h0]; omega
  | ⟨1, _⟩ => show win0_0.index t 1 * 128 + 1 * r.val = r.val; rw [h1]; omega
  | ⟨2, _⟩ => show win0_0.index t 2 * 1024 + 1 * i.val = i.val; rw [h2]; omega

/-- The input weights' block is the weights. -/
theorem iblk_w (t : Fin cfg0.N) :
    (iblk m c 1 t : Vec Ideal S1024x4096 .bf16) = (m ((c : Thread nD τ).loc main_arg1) : FVec Ideal S1024x4096 .f32) := by
  obtain ⟨-, ⟨h0, h1⟩, -⟩ := idx_in t
  refine Eq.trans ?_ (V_w m c)
  funext j
  unfold iblk
  rw [View.read_apply]
  show V m c main_v1 _ = V m c main_v1 _
  congr 1
  funext a
  apply Fin.ext
  match a with
  | ⟨0, _⟩ => show win0_1.index t 0 * 1024 + 1 * (j 0).val = (j 0).val; rw [h0]; omega
  | ⟨1, _⟩ => show win0_1.index t 1 * 4096 + 1 * (j 1).val = (j 1).val; rw [h1]; omega

/-- The recurrent weights' block is the weights. -/
theorem iblk_u (t : Fin cfg0.N) :
    (iblk m c 2 t : Vec Ideal S1024x4096 .bf16) = (m ((c : Thread nD τ).loc main_arg2) : FVec Ideal S1024x4096 .f32) := by
  obtain ⟨-, -, ⟨h0, h1⟩, -⟩ := idx_in t
  refine Eq.trans ?_ (V_u m c)
  funext j
  unfold iblk
  rw [View.read_apply]
  show V m c main_v2 _ = V m c main_v2 _
  congr 1
  funext a
  apply Fin.ext
  match a with
  | ⟨0, _⟩ => show win0_2.index t 0 * 1024 + 1 * (j 0).val = (j 0).val; rw [h0]; omega
  | ⟨1, _⟩ => show win0_2.index t 1 * 4096 + 1 * (j 1).val = (j 1).val; rw [h1]; omega

/-- The bias's block is the bias, as one row. -/
theorem iblk_b (t : Fin cfg0.N) (n : Fin 4096) :
    (iblk m c 3 t : Vec Ideal S1x4096 .f32) (ix2 (0 : Fin 1) n)
      = (m ((c : Thread nD τ).loc main_arg3) : FVec Ideal S4096 .f32) (ix1 n) := by
  obtain ⟨-, -, -, ⟨h0, h1⟩⟩ := idx_in t
  have e : (iblk m c 3 t : Vec Ideal S1x4096 .f32) (ix2 (0 : Fin 1) n) = (V m c main_v3 : FVec Ideal S1x4096 .f32) (ix2 (0 : Fin 1) n) := by
    unfold iblk
    rw [View.read_apply]
    show V m c main_v3 _ = V m c main_v3 _
    congr 1
    funext a
    apply Fin.ext
    match a with
    | ⟨0, _⟩ => show win0_3.index t 0 * 1 + 1 * 0 = 0; rw [h0]
    | ⟨1, _⟩ => show win0_3.index t 1 * 4096 + 1 * n.val = n.val; rw [h1]; omega
  rw [e, V_b]
  refine (shapeCast_addUnit_apply ![4096] _ shapeCasts_S4096_S1x4096 (ix2 (0 : Fin 1) n)).trans ?_
  refine congrArg (m ((c : Thread nD τ).loc main_arg3) : FVec Ideal S4096 .f32) (funext fun a => ?_)
  match a with
  | ⟨0, _⟩ => rfl

end Cert.Proof.Blocks

end
-- ==== Proof.Gates.lean ====
/-
  The two scalar facts of the gates over the extended reals: the kernel's constant is one half, and half the hyperbolic
  tangent of half a number, plus a half, is the logistic function the reference writes as one over one plus an exponential.
-/
module

public import Idealize.ShloMosaic.PureOps.Ideal

@[expose] public section

noncomputable section

namespace Cert.Proof.Gates

open Idealize.ShloMosaic

/-- The kernel's constant is one half. -/
theorem ofBits_half : Ideal.ofBits .f32 0x3F000000#32 = ((1 / 2 : ℝ) : EReal) := by
  simp [Ideal.ofBits, Ideal.ieee, -EReal.coe_mul]; norm_num

/-- The reference's constant is one. -/
theorem ofBits_one : Ideal.ofBits .f32 0x3F800000#32 = 1 := by
  simp [Ideal.ofBits, Ideal.ieee, -EReal.coe_mul]; norm_num

/-- The zero both programs begin from. -/
theorem ofBits_zero : Ideal.ofBits .f32 0x00000000#32 = 0 := by simp [Ideal.ofBits, Ideal.ieee]

/-- The logistic function in two positive numbers whose product is one. -/
theorem key (p q : ℝ) (hp : 0 < p) (hq : 0 < q) (h : p * q = 1) :
    1 / 2 * ((p - q) / 2 / ((p + q) / 2)) + 1 / 2 = (1 + q * q)⁻¹ := by
  have hd : p + q ≠ 0 := by positivity
  have hd' : 1 + q * q ≠ 0 := by positivity
  field_simp
  linear_combination (2 * q) * h

/-- Over the reals: half the hyperbolic tangent of half a number, plus a half, is the logistic function. -/
theorem real_gate (r : ℝ) : 1 / 2 * Real.tanh (r * (1 / 2)) + 1 / 2 = (1 + Real.exp (-r))⁻¹ := by
  have e : Real.exp (-r) = Real.exp (-(r * (1 / 2))) * Real.exp (-(r * (1 / 2))) := by
    rw [← Real.exp_add]; congr 1; ring
  rw [Real.tanh_eq_sinh_div_cosh, Real.sinh_eq, Real.cosh_eq, e]
  exact key _ _ (Real.exp_pos _) (Real.exp_pos _) (by rw [← Real.exp_add, add_neg_cancel, Real.exp_zero])

/-- The same over the extended reals, the infinities included. -/
theorem gate_eq (g : EReal) :
    ((1 / 2 : ℝ) : EReal) * Ideal.tanh (g * ((1 / 2 : ℝ) : EReal)) + ((1 / 2 : ℝ) : EReal)
      = Ideal.div 1 (1 + Ideal.exp (-g)) := by
  show _ = Ideal.logistic g
  induction g using EReal.rec with
  | bot =>
    rw [EReal.bot_mul_coe_of_pos (by norm_num), Ideal.tanh_bot, Ideal.logistic_bot]
    rw [show (-1 : EReal) = ((-1 : ℝ) : EReal) by simp, ← EReal.coe_mul, ← EReal.coe_add]; norm_num
  | top =>
    rw [EReal.top_mul_coe_of_pos (by norm_num), Ideal.tanh_top, Ideal.logistic_top]
    rw [show (1 : EReal) = ((1 : ℝ) : EReal) by simp, ← EReal.coe_mul, ← EReal.coe_add]; norm_num
  | coe r =>
    rw [← EReal.coe_mul, Ideal.tanh_coe, ← EReal.coe_mul, ← EReal.coe_add, real_gate, Ideal.logistic_coe]

end Cert.Proof.Gates

end
-- ==== Proof.RefStep.lean ====
/-
  One trip of the reference's loop over the extended reals, in the kernel's terms: its pre-activations are the trip's row of
  the projected inputs plus the hidden state times the recurrent weights, and the states it leaves are the cell's.
-/
module

public import proofs.«01_k».proof.Proof.Cell
public import proofs.«01_k».proof.Proof.Gates
public import proofs.«01_k».proof.Proof.Gen.ReferenceIdeal.Step
public import Idealize.ShloMosaic.Lib.WordCmp

@[expose] public section

noncomputable section

namespace Cert.Proof.RefStep

open Idealize.ShloMosaic Cert.ReferenceIdeal Cert.ReferenceIdeal.Step Cert.Proof.Cell
open Idealize.ShloMosaic.ValueIdx (ix2 ix3)

/-- The start index of trip `j` is `j`. -/
theorem start_eq (j : ℕ) (hj : j < 256) (a : Fin 3) :
    ((![(constantI S_ 32 (BitVec.ofNat 32 j) : S_.Idx → BitVec 32), constantI S_ 32 0#32, constantI S_ 32 0#32] : Fin 3 → S_.Idx → BitVec 32) a
      (Shape.Idx.first Gen.h_S_)).toInt = ((![j, 0, 0] : Fin 3 → ℕ) a : Int) := by
  match a with
  | ⟨0, _⟩ =>
    show (BitVec.ofNat 32 j).toInt = (j : Int)
    rw [BitVec.toInt_ofNat']
    simp only [Int.bmod]; omega
  | ⟨1, _⟩ => rfl
  | ⟨2, _⟩ => rfl

/-- One row of the projected inputs fits at trip `j`. -/
theorem slices_in (j : ℕ) (hj : j < 256) : S256x128x4096.Slices (![j, 0, 0] : Fin 3 → ℕ) S1x128x4096 :=
  ⟨rfl, fun a => by
    match a with
    | ⟨0, _⟩ => show j + 1 ≤ 256; omega
    | ⟨1, _⟩ => show 0 + 128 ≤ 128; omega
    | ⟨2, _⟩ => show 0 + 4096 ≤ 4096; omega⟩

/-- One row of the result fits at trip `j`. -/
theorem slices_out (j : ℕ) (hj : j < 256) : S256x128x1024.Slices (![j, 0, 0] : Fin 3 → ℕ) S1x128x1024 :=
  ⟨rfl, fun a => by
    match a with
    | ⟨0, _⟩ => show j + 1 ≤ 256; omega
    | ⟨1, _⟩ => show 0 + 128 ≤ 128; omega
    | ⟨2, _⟩ => show 0 + 1024 ≤ 1024; omega⟩

/-- The row of the projected inputs trip `j` reads. -/
theorem b3_apply (j : ℕ) (hj : j < 256) (s : State Ideal) (y : S128x4096.Idx) :
    b3 j s y = s.main_v7_0 (ix3 (⟨j, hj⟩ : Fin 256) (y 0 : Fin 128) (y 1 : Fin 4096)) := by
  unfold b3 b2
  refine (shapeCast_dropUnit_apply ![128, 4096] _ Gen.shapeCasts_S1x128x4096_S128x4096 y).trans ?_
  rw [WordCmp.dynamicSlice_eq_extract _ _ _ _ (![j, 0, 0] : Fin 3 → ℕ) (slices_in j hj) (start_eq j hj)]
  unfold extractStridedSlice
  refine congrArg s.main_v7_0 (funext fun a => Fin.ext ?_)
  match a with
  | ⟨0, _⟩ => show j + 0 = j; omega
  | ⟨1, _⟩ => show 0 + (y 0).val = (y 0).val; omega
  | ⟨2, _⟩ => show 0 + (y 1).val = (y 1).val; omega

/-- The result after trip `j`: its row `j` is the trip's hidden state, its other rows as they were. -/
theorem b28_apply (j : ℕ) (hj : j < 256) (s : State Ideal) (i : S256x128x1024.Idx) :
    b28 j s i = if (i 0).val = j then b24 j s (ix2 (i 1 : Fin 128) (i 2 : Fin 1024)) else s.main_v7_5 i := by
  unfold b28
  rw [WordCmp.dynamicUpdateSlice_eq_update _ _ _ _ (![j, 0, 0] : Fin 3 → ℕ) (slices_out j hj) (start_eq j hj)]
  unfold updateSlice
  have h1 : (i 1).val < 128 := (i 1).isLt
  have h2 : (i 2).val < 1024 := (i 2).isLt
  by_cases h : (i 0).val = j
  · rw [if_pos h, dif_pos (fun a => by
      match a with
      | ⟨0, _⟩ => exact ⟨h.ge, by show (i 0).val < j + 1; omega⟩
      | ⟨1, _⟩ => exact ⟨Nat.zero_le _, by show (i 1).val < 0 + 128; omega⟩
      | ⟨2, _⟩ => exact ⟨Nat.zero_le _, by show (i 2).val < 0 + 1024; omega⟩)]
    unfold b25 broadcastInDim
    refine congrArg (b24 j s) (Shape.idx_ext₂ ?_ ?_)
    · rfl
    · rfl
  · rw [if_neg h, dif_neg (fun hh => h (by
      have := hh 0
      have e1 : j ≤ (i 0).val := this.1
      have e2 : (i 0).val < j + 1 := this.2
      omega))]

/-- The reference's gates are the kernel's, of the same pre-activations. -/
theorem b14_eq (j : ℕ) (s : State Ideal) : b14 j s = gate (b5 j s) := by
  funext y
  show Ideal.div (Ideal.ofBits .f32 0x3F800000#32)
      (Ideal.ofBits .f32 0x3F800000#32 + Ideal.exp (-(b6 j s y)))
    = Ideal.ofBits .f32 0x3F000000#32 * Ideal.tanh (b6 j s y * Ideal.ofBits .f32 0x3F000000#32)
      + Ideal.ofBits .f32 0x3F000000#32
  rw [Gates.ofBits_half, Gates.ofBits_one, Gates.gate_eq]

/-- The reference's cell state is the cell's, of the same pre-activations. -/
theorem b22_eq (j : ℕ) (s : State Ideal) : b22 j s = cellC (b5 j s) s.main_v7_4 := by
  unfold b22 b20 b21 b17 b18
  rw [b14_eq]
  rfl

/-- The reference's hidden state is the cell's, of the same pre-activations. -/
theorem b24_eq (j : ℕ) (s : State Ideal) : b24 j s = cellH (b5 j s) s.main_v7_4 := by
  unfold b24 b23 b19
  rw [b14_eq, b22_eq]
  rfl

/-- The reference's pre-activations are the kernel's, of the same row of projected inputs, hidden state and recurrent
    weights. -/
theorem b5_eq (j : ℕ) (s : State Ideal) (xk : FVec Ideal S128x4096 .f32) (hx : b3 j s = xk) :
    b5 j s = zg xk s.main_v7_3 s.main_v7_1 := by
  subst hx
  funext y
  unfold b5 b4 zg
  rw [shapeCast_self]
  show b3 j s y + Ideal.matmul _ s.main_v7_3 s.main_v7_1 (fun _ => 0) y
    = b3 j s y + Ideal.matmul _ s.main_v7_3 s.main_v7_1 (fun _ => Ideal.ofBits .f32 0x00000000#32) y
  rw [Gates.ofBits_zero]
  rfl

end Cert.Proof.RefStep

end
-- ==== Proof.Proj.lean ====
/-
  The projected inputs over the extended reals, index by index: the kernel's block of eight steps and the reference's array
  are both, at a step, a row and a column, the sum of that input row times that weight column, plus the bias.
-/
module

public import proofs.«01_k».proof.Proof.Cell
public import proofs.«01_k».proof.Proof.Gates
public import proofs.«01_k».proof.Proof.Gen.ReferenceIdeal.Step

@[expose] public section

noncomputable section

namespace Cert.Proof.Proj

open Idealize.ShloMosaic Cert.Proof.Cell
open Idealize.ShloMosaic.ValueIdx (ix1 ix2 ix3 contrEquiv1 contrEquiv1_symm_val)

/-- The kernel's product of a 1024 by 1024 and a 1024 by 4096 array, at an index. -/
theorem kernelDot (l : FVec Ideal Cert.KernelIdeal.S1024x1024 .bf16) (w : FVec Ideal Cert.KernelIdeal.S1024x4096 .bf16)
    (R : Fin 1024) (n : Fin 4096) :
    Ideal.matmul Cert.KernelIdeal.dot_S1024x1024_S1024x4096_S1024x4096_1_0_0_1_n_n l w (fun _ => 0) (ix2 R n)
      = ∑ i : Fin 1024, l (ix2 R i) * w (ix2 i n) := by
  show (0 : EReal) + _ = _
  rw [zero_add]
  refine (Equiv.sum_comp (contrEquiv1 Cert.KernelIdeal.dot_S1024x1024_S1024x4096_S1024x4096_1_0_0_1_n_n 1024 rfl rfl).symm _).symm.trans ?_
  refine Finset.sum_congr rfl fun i _ => congrArg₂ (fun p q => l p * w q) ?_ ?_
  · refine Shape.idx_ext₂ ?_ ?_
    · simp [DotDims.lhsIdx, Cert.KernelIdeal.dot_S1024x1024_S1024x4096_S1024x4096_1_0_0_1_n_n]; rfl
    · simp [DotDims.lhsIdx, Cert.KernelIdeal.dot_S1024x1024_S1024x4096_S1024x4096_1_0_0_1_n_n]; rfl
  · refine Shape.idx_ext₂ ?_ ?_
    · simp [DotDims.rhsIdx, Cert.KernelIdeal.dot_S1024x1024_S1024x4096_S1024x4096_1_0_0_1_n_n]; rfl
    · simp [DotDims.rhsIdx, Cert.KernelIdeal.dot_S1024x1024_S1024x4096_S1024x4096_1_0_0_1_n_n]; rfl

/-- The reference's product of a 256 by 128 by 1024 and a 1024 by 4096 array, at an index. -/
theorem refDot (l : FVec Ideal Cert.ReferenceIdeal.S256x128x1024 .f32) (w : FVec Ideal Cert.ReferenceIdeal.S1024x4096 .f32)
    (s : Fin 256) (r : Fin 128) (n : Fin 4096) :
    Ideal.matmul Cert.ReferenceIdeal.dot_S256x128x1024_S1024x4096_S256x128x4096_2_0_01_1_n_n l w (fun _ => 0) (ix3 s r n)
      = ∑ i : Fin 1024, l (ix3 s r i) * w (ix2 i n) := by
  show (0 : EReal) + _ = _
  rw [zero_add]
  refine (Equiv.sum_comp (contrEquiv1 Cert.ReferenceIdeal.dot_S256x128x1024_S1024x4096_S256x128x4096_2_0_01_1_n_n 1024 rfl rfl).symm _).symm.trans ?_
  refine Finset.sum_congr rfl fun i _ => congrArg₂ (fun p q => l p * w q) ?_ ?_
  · funext a
    apply Fin.ext
    match a with
    | ⟨0, _⟩ => simp [DotDims.lhsIdx, Cert.ReferenceIdeal.dot_S256x128x1024_S1024x4096_S256x128x4096_2_0_01_1_n_n]; rfl
    | ⟨1, _⟩ => simp [DotDims.lhsIdx, Cert.ReferenceIdeal.dot_S256x128x1024_S1024x4096_S256x128x4096_2_0_01_1_n_n]; rfl
    | ⟨2, _⟩ => simp [DotDims.lhsIdx, Cert.ReferenceIdeal.dot_S256x128x1024_S1024x4096_S256x128x4096_2_0_01_1_n_n]; rfl
  · refine Shape.idx_ext₂ ?_ ?_
    · simp [DotDims.rhsIdx, Cert.ReferenceIdeal.dot_S256x128x1024_S1024x4096_S256x128x4096_2_0_01_1_n_n]; rfl
    · simp [DotDims.rhsIdx, Cert.ReferenceIdeal.dot_S256x128x1024_S1024x4096_S256x128x4096_2_0_01_1_n_n]; rfl

section Kernel

open Cert.KernelIdeal Cert.KernelIdeal.Gen

/-- A row of step `k` of the kernel's projected inputs. -/
theorem slab_apply (x : Vec Ideal S8x128x1024 .bf16) (w : Vec Ideal S1024x4096 .bf16) (b : Vec Ideal S1x4096 .f32)
    (k : ℕ) (hk : k < 8) (r : Fin 128) (n : Fin 4096) :
    slab (128 * k) (k0_pay9 x w b) (ix2 r n)
      = (∑ i : Fin 1024, x (ix3 (⟨k, hk⟩ : Fin 8) r i) * w (ix2 i n) : EReal) + b (ix2 (0 : Fin 1) n) := by
  have hr : r.val < 128 := r.isLt
  unfold slab k0_pay9
  rw [shapeCast_self, shapeCast_self, shapeCast_self]
  show Ideal.matmul _ _ w (fun _ => Ideal.ofBits .f32 0x00000000#32) (ix2 (⟨(128 * k + r.val) % 1024, Nat.mod_lt _ (by decide)⟩ : Fin 1024) n)
    + broadcastTo S1024x4096 b broadcasts_S1x4096_S1024x4096 (ix2 (⟨(128 * k + r.val) % 1024, Nat.mod_lt _ (by decide)⟩ : Fin 1024) n) = _
  rw [Gates.ofBits_zero, kernelDot]
  refine congrArg₂ (fun p q : EReal => p + q) (Finset.sum_congr rfl fun i _ => congrArg (fun p : EReal => p * w (ix2 i n)) ?_) ?_
  · refine shapeCast_apply x shapeCasts_S8x128x1024_S1024x1024 _ _ ?_
    refine (Shape.rowMajor_val_three (d := ![8, 128, 1024]) _).trans ((Shape.rowMajor_val_two (d := ![1024, 1024]) _).trans ?_).symm
    show (128 * k + r.val) % 1024 * 1024 + i.val = (k * 128 + r.val) * 1024 + i.val
    rw [Nat.mod_eq_of_lt (by omega)]
    omega
  · refine broadcastTo_apply b broadcasts_S1x4096_S1024x4096 _ _ fun a => ?_
    match a with
    | ⟨0, _⟩ => rfl
    | ⟨1, _⟩ => rfl

end Kernel

section Reference

open Cert.ReferenceIdeal Cert.ReferenceIdeal.Step

/-- The reference's projected inputs, at an index. -/
theorem ref_apply (x : FVec Ideal S256x128x1024 .f32) (w : FVec Ideal S1024x4096 .f32) (b : FVec Ideal S4096 .f32)
    (s : Fin 256) (r : Fin 128) (n : Fin 4096) :
    (A_main_v3 (F := Ideal) x w b (ix3 s r n) : EReal) = (∑ i : Fin 1024, x (ix3 s r i) * w (ix2 i n) : EReal) + b (ix1 n) := by
  show Ideal.matmul _ x w (fun _ => 0) _ + A_main_v2 (F := Ideal) x w b (ix3 s r n) = _
  rw [refDot]
  refine congrArg (fun q : EReal => _ + q) ?_
  refine (broadcastInDim_apply ![0, 1, 2] Gen.bcast_S1x1x4096_S256x128x4096_0_1_2 (A_main_v1 (F := Ideal) x w b) _
    (ix3 (0 : Fin 1) (0 : Fin 1) n) fun a => ?_).trans ?_
  · match a with
    | ⟨0, _⟩ => rfl
    | ⟨1, _⟩ => rfl
    | ⟨2, _⟩ => rfl
  · unfold A_main_v1
    refine broadcastInDim_apply ![2] Gen.bcast_S4096_S1x1x4096_2 b _ (ix1 n) fun a => ?_
    match a with
    | ⟨0, _⟩ => rfl

end Reference

end Cert.Proof.Proj

end
-- ==== Proof.Chain.lean ====
/-
  The reference's loop over the extended reals: the sequence of its states, what never changes in it, each state from the one
  before by the kernel's cell, the rows of its result, and eight of its trips as the eight steps of a grid point.
-/
module

public import proofs.«01_k».proof.Proof.RefStep
public import proofs.«01_k».proof.Proof.Proj

@[expose] public section

noncomputable section

namespace Cert.Proof.Chain

open Idealize.ShloMosaic Cert.ReferenceIdeal Cert.ReferenceIdeal.Step Cert.Proof.Cell
open Idealize.ShloMosaic.ValueIdx (ix1 ix2 ix3)

variable (X : FVec Ideal S256x128x1024 .f32) (W U : FVec Ideal S1024x4096 .f32) (B : FVec Ideal S4096 .f32)

/-- The reference's state before trip `n`. -/
def it : ℕ → State Ideal
  | 0 => init U X W B
  | n + 1 => step n (it n)

/-- The projected inputs never change. -/
theorem it_x : ∀ n, (it X W U B n).main_v7_0 = A_main_v3 X W B
  | 0 => rfl
  | n + 1 => it_x n

/-- The recurrent weights never change. -/
theorem it_u : ∀ n, (it X W U B n).main_v7_1 = U
  | 0 => rfl
  | n + 1 => it_u n

/-- The hidden and the cell state before trip `n`. -/
def hc (n : ℕ) : FVec Ideal S128x1024 .f32 × FVec Ideal S128x1024 .f32 := ((it X W U B n).main_v7_3, (it X W U B n).main_v7_4)

/-- A trip's states are the cell's of its row of projected inputs and the states before. -/
theorem hc_succ (n : ℕ) (xk : FVec Ideal S128x4096 .f32) (hx : b3 n (it X W U B n) = xk) :
    hc X W U B (n + 1) = (cellH (zg xk (hc X W U B n).1 U) (hc X W U B n).2, cellC (zg xk (hc X W U B n).1 U) (hc X W U B n).2) := by
  have e := RefStep.b5_eq n (it X W U B n) xk hx
  rw [it_u] at e
  show (b24 n (it X W U B n), b22 n (it X W U B n)) = _
  rw [RefStep.b24_eq, RefStep.b22_eq, e]
  rfl

/-- Row `s` of the result is the hidden state after trip `s`, once that trip is done. -/
theorem it_out (n : ℕ) (hn : n ≤ 256) (i : S256x128x1024.Idx) (hi : (i 0).val < n) :
    (it X W U B n).main_v7_5 i = (hc X W U B ((i 0).val + 1)).1 (ix2 (i 1 : Fin 128) (i 2 : Fin 1024)) := by
  induction n with
  | zero => omega
  | succ n ih =>
    show b28 n (it X W U B n) i = _
    rw [RefStep.b28_apply n (by omega)]
    by_cases h : (i 0).val = n
    · rw [if_pos h, h]; rfl
    · rw [if_neg h]; exact ih (by omega) (by omega)

/-- Eight steps of a grid point that begins at trip `s`, with that trip's states and the next eight rows of projected
    inputs, are eight trips. -/
theorem steps_eq (v : FVec Ideal Cert.KernelIdeal.S1024x4096 .f32) (s : ℕ)
    (hv : ∀ k, k < 8 → slab (128 * k) v = b3 (s + k) (it X W U B (s + k))) :
    ∀ k, k ≤ 8 → steps v U (hc X W U B s).1 (hc X W U B s).2 k = hc X W U B (s + k)
  | 0, _ => rfl
  | k + 1, hk => by
    have ih := steps_eq v s hv k (by omega)
    rw [← Nat.add_assoc, hc_succ X W U B (s + k) _ (hv k (by omega)).symm, ← ih]
    rfl

/-- The row of projected inputs trip `s` reads, at an index. -/
theorem row_apply (s : ℕ) (hs : s < 256) (r : Fin 128) (n : Fin 4096) :
    (b3 s (it X W U B s) (ix2 r n) : EReal)
      = (∑ i : Fin 1024, X (ix3 (⟨s, hs⟩ : Fin 256) r i) * W (ix2 i n) : EReal) + B (ix1 n) := by
  rw [RefStep.b3_apply s hs, it_x]
  exact Proj.ref_apply X W B ⟨s, hs⟩ r n

end Cert.Proof.Chain

end
-- ==== Proof.Equation.lean ====
/-
  The equation: after every grid point the kernel holds the reference's states, so the array it writes is the reference's
  result, element by element over the extended reals.
-/
module

public import proofs.«01_k».proof.Proof.Block
public import proofs.«01_k».proof.Proof.Blocks
public import proofs.«01_k».proof.Proof.Chain

@[expose] public section

noncomputable section

namespace Cert.Proof.Equation

open Idealize.ShloMosaic Idealize.ShloMosaic.TcCoe Idealize.SL.Sem Cert.KernelIdeal Cert.KernelIdeal.Gen Cert.Proof.Cell
open Cert.Proof.Block (stack left)
open Idealize.ShloMosaic.ValueIdx (ix1 ix2 ix3)

variable (m : (ℓ : Loc nD τ sig) → Buf (Elt Ideal) ℓ) (c : Dev nD)

/-- The reference's states on the kernel's arguments. -/
abbrev ref (n : ℕ) : Cert.ReferenceIdeal.Step.State Ideal :=
  Chain.it (m ((c : Thread nD τ).loc main_arg0)) (m ((c : Thread nD τ).loc main_arg1)) (m ((c : Thread nD τ).loc main_arg2))
    (m ((c : Thread nD τ).loc main_arg3)) n

/-- The reference's hidden and cell states on the kernel's arguments. -/
abbrev hcs (n : ℕ) : FVec Ideal S128x1024 .f32 × FVec Ideal S128x1024 .f32 :=
  Chain.hc (m ((c : Thread nD τ).loc main_arg0)) (m ((c : Thread nD τ).loc main_arg1)) (m ((c : Thread nD τ).loc main_arg2))
    (m ((c : Thread nD τ).loc main_arg3)) n

/-- A grid point's projected inputs are the eight rows its trips read. -/
theorem rows_eq (t : Fin cfg0.N) (k : ℕ) (hk : k < 8) :
    slab (128 * k) (k0_pay9 (iblk m c 0 t : Vec Ideal S8x128x1024 .bf16) (iblk m c 1 t : Vec Ideal S1024x4096 .bf16)
        (iblk m c 3 t : Vec Ideal S1x4096 .f32))
      = Cert.ReferenceIdeal.Step.b3 (8 * t.val + k) (ref m c (8 * t.val + k)) := by
  have ht : t.val < 32 := lt_of_lt_of_eq t.isLt N_0
  funext y
  obtain ⟨r, n, rfl⟩ : ∃ (r : Fin 128) (n : Fin 4096), y = ix2 r n := ⟨y 0, y 1, ValueIdx.eq_ix2 y⟩
  refine (Proj.slab_apply _ _ _ k hk r n).trans (Eq.trans ?_ (Chain.row_apply _ _ _ _ (8 * t.val + k) (by omega) r n).symm)
  rw [Blocks.iblk_b, Blocks.iblk_w]
  refine congrArg (fun p : EReal => p + _) (Finset.sum_congr rfl fun i _ => congrArg (fun p : EReal => p * _) ?_)
  exact Blocks.iblk_x m c t ⟨k, hk⟩ r i (by show 8 * t.val + k < 256; omega)

/-- What is left after the grid point that ends before trip `s + 8`. -/
def after (s : ℕ) : Vec Ideal S8x128x1024 .f32 × Vec Ideal S128x1024 .f32 × Vec Ideal S128x1024 .f32 :=
  (stack fun k => (hcs m c (s + (k + 1))).1, (hcs m c (s + 8)).1, (hcs m c (s + 8)).2)

/-- A grid point that begins with the states before trip `8t` leaves the states of its eight trips. -/
theorem left_eq (t : Fin cfg0.N) :
    left (k0_pay9 (iblk m c 0 t : Vec Ideal S8x128x1024 .bf16) (iblk m c 1 t : Vec Ideal S1024x4096 .bf16)
        (iblk m c 3 t : Vec Ideal S1x4096 .f32)) (iblk m c 2 t : Vec Ideal S1024x4096 .bf16)
        (hcs m c (8 * t.val)).1 (hcs m c (8 * t.val)).2 = after m c (8 * t.val) := by
  have hs := Chain.steps_eq (m ((c : Thread nD τ).loc main_arg0)) (m ((c : Thread nD τ).loc main_arg1))
    (m ((c : Thread nD τ).loc main_arg2)) (m ((c : Thread nD τ).loc main_arg3)) _ (8 * t.val) (fun k hk => rows_eq m c t k hk)
  rw [Blocks.iblk_u]
  unfold left after
  rw [hs 8 (Nat.le_refl 8)]
  refine Prod.ext ?_ rfl
  funext i
  have hi : (i 0).val < 8 := (i 0).isLt
  show (steps _ _ _ _ ((i 0).val + 1)).1 _ = _
  rw [hs ((i 0).val + 1) (by omega)]
  rfl

/-- The kernel's zeros are the reference's initial states. -/
theorem zeros_eq : (k0_pay7 (F := Ideal), k0_pay8 (F := Ideal)) = hcs m c 0 := by
  refine Prod.ext ?_ ?_
  · funext j; rfl
  · funext j; rfl

/-- The first grid point's blocks, worked through from zeros. -/
theorem point_A (t : Fin cfg0.N) (h0 : t.val % 32 = 0) :
    outsAt0 m c t.val t.isLt = left (k0_pay9 (iblk m c 0 t : Vec Ideal S8x128x1024 .bf16) (iblk m c 1 t : Vec Ideal S1024x4096 .bf16)
        (iblk m c 3 t : Vec Ideal S1x4096 .f32)) (iblk m c 2 t : Vec Ideal S1024x4096 .bf16) (k0_pay7 (F := Ideal)) (k0_pay8 (F := Ideal)) :=
  (outsAt0_A m c t h0).trans (Block.left_A c (grid0.coords t) _ _ _ _ _ _ _ _ _ _ _ _ _ _ _ _ _ _ _)

/-- A later grid point's blocks, worked through from what the point before left. -/
theorem point_B (t : Fin cfg0.N) (h0 : ¬t.val % 32 = 0) (hp : t.val - 1 < cfg0.N) :
    outsAt0 m c t.val t.isLt = left (k0_pay9 (iblk m c 0 t : Vec Ideal S8x128x1024 .bf16) (iblk m c 1 t : Vec Ideal S1024x4096 .bf16)
        (iblk m c 3 t : Vec Ideal S1x4096 .f32)) (iblk m c 2 t : Vec Ideal S1024x4096 .bf16)
        (outsAt0 m c (t.val - 1) hp).2.1 (outsAt0 m c (t.val - 1) hp).2.2 :=
  (outsAt0_B m c t h0).trans (Block.left_B c (grid0.coords t) _ _ _ _ _ _ _ _ _ _ _ _ _ _ _ _ _ _ _ _ _)

/-- The first grid point leaves the states of the first eight trips. -/
theorem first_eq (t : Fin cfg0.N) (h0 : t.val = 0) : outsAt0 m c t.val t.isLt = after m c (8 * t.val) := by
  have z := zeros_eq m c
  rw [point_A m c t (by omega), ← left_eq m c t, show 8 * t.val = 0 by omega, ← z]

/-- A grid point after one that left its eight trips' states leaves the next eight trips'. -/
theorem next_eq (t : Fin cfg0.N) (h0 : ¬t.val % 32 = 0) (s : ℕ) (hs : s + 8 = 8 * t.val) (hp : t.val - 1 < cfg0.N)
    (ih : outsAt0 m c (t.val - 1) hp = after m c s) : outsAt0 m c t.val t.isLt = after m c (8 * t.val) := by
  rw [point_B m c t h0 hp, ← left_eq m c t, ih, ← hs]
  rfl

/-- After every grid point the kernel holds the states of the reference's trips up to there. -/
theorem outs_eq : ∀ (n : ℕ) (hn : n < cfg0.N), outsAt0 m c n hn = after m c (8 * n)
  | 0, hn => first_eq m c ⟨0, hn⟩ rfl
  | n + 1, hn => by
    have hN : n + 1 < 32 := lt_of_lt_of_eq hn N_0
    exact next_eq m c ⟨n + 1, hn⟩ (by show ¬(n + 1) % 32 = 0; omega) (8 * n) (by show 8 * n + 8 = 8 * (n + 1); omega)
      (by show n + 1 - 1 < cfg0.N; omega) (outs_eq n (by omega))

/-- The array the kernel writes is the reference's result. -/
theorem result_eq : (ref m c 256).main_v7_5 = (Cert.KernelIdeal.Value.G4 m c : Vec Ideal S256x128x1024 .f32) := by
  funext i
  have h0 : (i 0).val < 256 := (i 0).isLt
  have h1 : (i 1).val < 128 := (i 1).isLt
  have h2 : (i 2).val < 1024 := (i 2).isLt
  refine (Chain.it_out _ _ _ _ 256 (Nat.le_refl _) i h0).trans ?_
  have hp : Cert.KernelIdeal.Value.pt4Of i = (i 0).val / 8 := by
    show _ = _
    simp only [Cert.KernelIdeal.Value.pt4Of, Cert.KernelIdeal.Value.run4Of]
    omega
  have hN : (i 0).val / 8 < cfg0.N := lt_of_lt_of_eq (by omega : (i 0).val / 8 < 32) N_0.symm
  unfold Cert.KernelIdeal.Value.G4
  rw [dif_pos (by rw [hp]; exact hN), ← Cert.KernelIdeal.Value.outsAt0_sweep m c _ (by rw [hp]; exact hN),
    outs_eq m c _ (by rw [hp]; exact hN), hp]
  show _ = (hcs m c (8 * ((i 0).val / 8) + ((i 0).val % 8 + 1))).1 _
  rw [show 8 * ((i 0).val / 8) + ((i 0).val % 8 + 1) = (i 0).val + 1 by omega]
  refine congrArg (hcs m c ((i 0).val + 1)).1 (Shape.idx_ext₂ ?_ ?_)
  · show (i 1).val = (i 1).val % 128; omega
  · show (i 2).val = (i 2).val % 1024; omega

end Cert.Proof.Equation

end
-- ==== Proof.lean ====
/-
  The certificate: each program's frame from its run, the idealisation that rewrote nothing, and the equation of the
  idealised kernel's result and the reference's (`Equation`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.RefRun
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged and no counter left raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, on memories that agree on the arguments, the kernel and the reference leave the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans
    ((RefRun.result_iter m' c (Equation.ref m c) ?_ fun n => rfl).trans (Equation.result_eq m c)), (h c).2⟩)
    (Cert.ReferenceIdeal.Value.run (F := Ideal) m' ρ')
  obtain ⟨h0, h1, h2, h3⟩ := hagree c
  unfold RefRun.start
  rw [h0, h1, h2, h3]
  rfl

/-- The whole claim: termination and frame of each program, the idealised kernel the kernel's own, and its result the
    reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
